-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x128x256 : Shape := ⟨3, ![2, 128, 256]⟩
abbrev S2 : Shape := ⟨1, ![2]⟩
abbrev S_ : Shape := ⟨0, ![]⟩
abbrev S128x256 : Shape := ⟨2, ![128, 256]⟩
abbrev S1x128x256 : Shape := ⟨3, ![1, 128, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x128x256, .bf16⟩
  | .local _ .vmem, ⟨3, _⟩ => ⟨S2x128x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v23 : BitVec 32 := Scalar.muli v9 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v25 : BitVec 32 := Scalar.muli v5 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v27 : BitVec 32 := Scalar.muli v8 c1_i32_20
  let v28 : BitVec 32 := Scalar.addi v26 v27
  v28.toNat
def k0_dev3 (d0 : Dev nD) : Nat :=
  let c0_i32_33 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_32 : BitVec 32 := 4#32
  let v43 : BitVec 32 := Scalar.muli v9 c4_i32_32
  let v44 : BitVec 32 := Scalar.addi c0_i32_33 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v45 : BitVec 32 := Scalar.muli v5 c2_i32_34
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v47 : BitVec 32 := Scalar.muli v8 c1_i32_35
  let v48 : BitVec 32 := Scalar.addi v46 v47
  v48.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Slots.lean ====
/-
  The geometry of the exchange, with no program logic in it: which device a device exchanges with, the two row
  halves of the 256 × 256 blocks, the two slots of the 2 × 128 × 256 staging and landing buffers, and what the
  arrays hold.

  The mesh is 2 × 2 × 2 and a device exchanges with the one across the first axis (`peer`). Half `q` of the input block
  is rows `128 q … 128 q + 127`; it is rounded to bf16 into slot `q` of the staging buffer (`sent`), copied into
  slot `q` of the peer's landing buffer (`read_copied`), widened there and added to the peer's own half (`sumHalf`).
  `store_halves` says that the two halves stored one after the other make the whole result block `outAt`.
-/
module

public import proofs.«01_k».proof.Proof.Gen.KernelIdeal
public import proofs.«01_k».proof.Proof.Gen.KernelIdeal.Skeleton
public import Idealize.ShloMosaic.Lib.Ring
public import Idealize.ShloMosaic.Lib.ViewIndex
public import Idealize.ShloMosaic.Lib.Pipeline.Value

@[expose] public section

noncomputable section

namespace Cert.KernelIdeal.Swap

open Cert.KernelIdeal Cert.KernelIdeal.Gen
open Idealize.ShloMosaic Idealize.ShloMosaic.TcCoe

variable {F : FTy → Type} [FloatOps F]

/-! ## The peer -/

set_option backward.proofsInPublic true in
/-- The device across the first mesh axis. -/
def peer (c : Dev nD) : Dev nD := ⟨(c.val + 4) % 8, Nat.mod_lt _ (by decide)⟩

/-- The peer's peer is the device itself. -/
theorem peer_peer (c : Dev nD) : peer (peer c) = c := by revert c; decide

/-- The device the barrier signal is addressed to is the peer; -/
theorem signal_dev (c : Dev nD) : (⟨k0_dev1 c, k0_dev1_lt c⟩ : Dev nD) = peer c :=
  Fin.ext ((k0_dev1_eq c).trans (by revert c; decide))
/-- so is the one the first copy is addressed to, -/
theorem copy0_dev (c : Dev nD) : (⟨k0_dev2 c, k0_dev2_lt c⟩ : Dev nD) = peer c :=
  Fin.ext ((k0_dev2_eq c).trans (by revert c; decide))
/-- and the second copy. -/
theorem copy1_dev (c : Dev nD) : (⟨k0_dev3 c, k0_dev3_lt c⟩ : Dev nD) = peer c :=
  Fin.ext ((k0_dev3_eq c).trans (by revert c; decide))

/-- The exchange as a permutation of the devices. -/
def across : Dev nD ≃ Dev nD := ⟨peer, peer, peer_peer, peer_peer⟩

/-! ## Buffers, halves and slots -/

/-- The input block and the result block in vector memory, the bf16 staging buffer, the landing buffer. -/
abbrev inM : Memref sig .tc .vmem S256x256 .f32 := Memref.whole cc0_stg0_0
abbrev outM : Memref sig .tc .vmem S256x256 .f32 := Memref.whole cc0_stg1_0
abbrev stageM : Memref sig .tc .vmem S2x128x256 .bf16 := Memref.whole cc0_scratch0
abbrev landM : Memref sig .tc .vmem S2x128x256 .bf16 := Memref.whole cc0_scratch1

/-- Where half `q` of a block starts, -/
abbrev halfOff : Fin 2 → Fin S256x256.rank → ℕ
  | 0 => ![0, 0]
  | 1 => ![128, 0]
/-- that it lies inside the block, -/
theorem halfInb : ∀ (q : Fin 2) (a : Fin S256x256.rank), halfOff q a + S128x256.size a ≤ S256x256.size a
  | 0 => inb_S256x256_S128x256_0_0
  | 1 => inb_S256x256_S128x256_128_0
/-- and the half itself: 128 rows. -/
abbrev half (q : Fin 2) : Rect S256x256 := Rect.unit (s := S256x256) (halfOff q) S128x256.size (halfInb q)

/-- Where slot `q` of a two-slot buffer starts, -/
abbrev slotOff : Fin 2 → Fin S2x128x256.rank → ℕ
  | 0 => ![0, 0, 0]
  | 1 => ![1, 0, 0]
/-- that it lies inside the buffer, -/
theorem slotInb : ∀ (q : Fin 2) (a : Fin S2x128x256.rank), slotOff q a + S1x128x256.size a ≤ S2x128x256.size a
  | 0 => inb_S2x128x256_S1x128x256_0_0_0
  | 1 => inb_S2x128x256_S1x128x256_1_0_0
/-- and the slot itself. -/
abbrev slot (q : Fin 2) : Rect S2x128x256 := Rect.unit (s := S2x128x256) (slotOff q) S1x128x256.size (slotInb q)

/-- Slot `q` of the staging buffer as the copy names it, its leading axis of size one dropped; -/
abbrev stageSlot (q : Fin 2) : Memref sig .tc .vmem S128x256 .bf16 :=
  ((stageM : Memref sig .tc .vmem S2x128x256 .bf16).slice (slot q) (fun _ => rfl)).squeeze S128x256 squeezes_S1x128x256_S128x256
/-- the same of the landing buffer. -/
abbrev landSlot (q : Fin 2) : Memref sig .tc .vmem S128x256 .bf16 :=
  ((landM : Memref sig .tc .vmem S2x128x256 .bf16).slice (slot q) (fun _ => rfl)).squeeze S128x256 squeezes_S1x128x256_S128x256

/-- The two slots have no element in common, -/
theorem slot_disjoint (q q' : Fin 2) (h : q ≠ q') : Disjoint (slot q).set (slot q').set :=
  Ring.lead_disjoint (s := S2x128x256) (0 : Fin 3) 1 slotOff S1x128x256.size slotInb (by decide) rfl q q' h
/-- and make up the buffer; -/
theorem slot_cover : Finset.univ.biUnion (fun q => (slot q).set) = Finset.univ :=
  Ring.lead_cover (s := S2x128x256) (0 : Fin 3) 1 slotOff S1x128x256.size slotInb (by decide) (by decide) rfl (by decide) rfl
/-- the two halves make up the block. -/
theorem half_cover : Finset.univ.biUnion (fun q => (half q).set) = Finset.univ :=
  Ring.lead_cover (s := S256x256) (0 : Fin 2) 128 halfOff S128x256.size halfInb (by decide) (by decide) rfl (by decide) rfl

/-- The elements under a slot of the staging buffer, named as the copy names them; -/
theorem stageSlot_set (q : Fin 2) : (stageSlot q).view.set = ((stageM : Memref sig .tc .vmem S2x128x256 .bf16).access (slot q)).set :=
  View.set_reshape _ _
/-- of the landing buffer. -/
theorem landSlot_set (q : Fin 2) : (landSlot q).view.set = ((landM : Memref sig .tc .vmem S2x128x256 .bf16).access (slot q)).set :=
  View.set_reshape _ _

/-- A copy between two views re-indexed alike leaves the destination reading what the source reads. -/
theorem read_reshaped_copy {Val : EltTy → Type} {sp sp' : Space} {s s' : Shape} {e : EltTy}
    (v : View sig .tc sp s e) (w : View sig .tc sp' s e) (h : s'.numel = s.numel) (f : v.ty.Contents Val) (g : w.ty.Contents Val) :
    v.read Val ((v.reshape s' h).write Val f ((w.reshape s' h).read Val g) Finset.univ) = w.read Val g := by
  funext i
  obtain ⟨x, rfl⟩ := (Shape.reshapeEquiv h).surjective i
  rw [View.read_write_reshape]
  rfl

/-- After slot `q` of a staging buffer is copied into slot `q` of a landing buffer, the latter reads what the former read. -/
theorem read_copied (q : Fin 2) (f : (cc0_scratch1 : Ref sig .tc).ty.Contents (Elt F)) (g : (cc0_scratch0 : Ref sig .tc).ty.Contents (Elt F)) :
    ((landM : Memref sig .tc .vmem S2x128x256 .bf16).access (slot q)).read (Elt F)
        ((landSlot q).view.write (Elt F) f ((stageSlot q).view.read (Elt F) g) Finset.univ)
      = ((stageM : Memref sig .tc .vmem S2x128x256 .bf16).access (slot q)).read (Elt F) g :=
  read_reshaped_copy (landM.access (slot q)) (stageM.access (slot q)) squeezes_S1x128x256_S128x256.numel_eq f g

/-! ## Contents -/

variable (m : (ℓ : Loc nD τ sig) → Buf (Elt F) ℓ)

/-- Device `c`'s input block, -/
def xAt (c : Dev nD) : Vec F S256x256 .f32 := m ((c : Thread nD τ).loc main_arg0)

/-- half `q` of a block, -/
def halfOf (q : Fin 2) (x : Vec F S256x256 .f32) : Vec F S128x256 .f32 :=
  ((inM : Memref sig .tc .vmem S256x256 .f32).access (half q)).read (Elt F) x

/-- what device `c` stages and sends of half `q`: the half rounded to bf16, as a one-slot stack; -/
def sent (c : Dev nD) (q : Fin 2) : Vec F S1x128x256 .bf16 := k0_pay2 (halfOf q (xAt m c))

/-- what device `c` stores in half `q` of its result: its own half plus what the peer sent, widened. -/
def sumHalf (c : Dev nD) (q : Fin 2) : Vec F S128x256 .f32 := k0_pay1 (halfOf q (xAt m c)) (sent m (peer c) q)

/-- The result block of device `c`: at each element its own input plus the peer's, the latter rounded to bf16 and widened. -/
def outAt (c : Dev nD) : Vec F S256x256 .f32 :=
  addf (xAt m c) (extf .f32 (truncf .bf16 (xAt m (peer c)) bitsLt_bf16_f32) bitsLt_bf16_f32)

/-- The stored half is that half of the result block. -/
theorem sumHalf_eq (c : Dev nD) (q : Fin 2) :
    sumHalf m c q = ((outM : Memref sig .tc .vmem S256x256 .f32).access (half q)).read (Elt F) (outAt m c) := by
  unfold sumHalf sent k0_pay1 k0_pay2
  simp only [shapeCast_self, shapeCast_shapeCast]
  rfl

/-- Writing through a view what the view reads of `g` makes the contents those of `g` on the view and leaves them elsewhere. -/
theorem write_read {Val : EltTy → Type} {sp : Space} {s : Shape} {e : EltTy} (v : View sig .tc sp s e) (f g : v.ty.Contents Val) (i : v.ty.Idx) :
    v.write Val f (v.read Val g) Finset.univ i = if i ∈ v.set then g i else f i := by
  by_cases h : i ∈ v.set
  · rw [if_pos h]
    obtain ⟨x, -, rfl⟩ := Finset.mem_map.mp h
    exact View.eq_of_read_eq (View.read_write_of_mem f _ (Finset.mem_univ x))
  · rw [if_neg h]; exact View.write_of_not_mem f _ _ h

/-- Storing half 0 and then half 1 over any contents leaves the whole result block. -/
theorem store_halves (c : Dev nD) (f : (cc0_stg1_0 : Ref sig .tc).ty.Contents (Elt F)) :
    ((outM : Memref sig .tc .vmem S256x256 .f32).access (half 1)).write (Elt F)
        (((outM : Memref sig .tc .vmem S256x256 .f32).access (half 0)).write (Elt F) f (sumHalf m c 0) Finset.univ)
        (sumHalf m c 1) Finset.univ
      = outAt m c := by
  rw [sumHalf_eq, sumHalf_eq]
  funext i
  rw [write_read, write_read]
  have hi : i ∈ Finset.univ.biUnion fun q => (half q).set := by rw [half_cover]; exact Finset.mem_univ i
  obtain ⟨q, -, hq⟩ := Finset.mem_biUnion.mp hi
  have hs : ∀ q : Fin 2, ((outM : Memref sig .tc .vmem S256x256 .f32).access (half q)).set = (half q).set :=
    fun q => View.set_slice_whole _ _
  rw [hs, hs]
  by_cases h1 : i ∈ (half 1).set
  · rw [if_pos h1]
  · rw [if_neg h1, if_pos]
    fin_cases q
    · exact hq
    · exact absurd hq h1

end Cert.KernelIdeal.Swap

end
-- ==== Proof.KernelIdeal.Protocol.lean ====
/-
  The cross-device protocol.

  Device `c` has five cells (`Role`): the barrier, and for each half `q` one cell that tells that its copy out has been
  read and one that tells that the peer's copy has landed. Every cell is paid once and waited for once.

    cell of c   paid by                amount   what c gets when its wait ends
    barrier     peer's signal          1        the peer's two landing slots, whatever they hold
    land q      peer's copy of half q  N        its own landing slot q, holding what the peer sent of half q
    out q       its own copy of half q N        its own staging slot q back, whatever it holds

  The barrier is what makes the copies legal: a device copies into its peer's landing slots only after the peer handed
  them over. At launch a device owes its peer one barrier unit and the two landings (`owed₀`); levels put landings above
  the barrier, so the wait on the barrier, made while owing the landings only, is never part of a cycle.
-/
module

public import proofs.«01_k».proof.Proof.KernelIdeal.Slots
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, and one rounds structure over the five cells with one duty per round. -/
abbrev Duties : Type := URounds (GSem nD τ sig) Unit
abbrev Ghost : Type := UR sig nD τ × Duties

local notation "𝕄" => MT nD τ sig Unit (Elt F) ℕ Ghost ℕ

abbrev pipeE : Emb (UR sig nD τ) (MT nD τ sig Unit (Elt F) ℕ Ghost ℕ) := embL
abbrev swapE : Emb Duties (MT nD τ sig Unit (Elt F) ℕ Ghost ℕ) := embR

/-! ## The cells -/

/-- `none` is the barrier; `some (false, q)` the cell of the copy out of half `q`, `some (true, q)` of its landing. -/
abbrev Role : Type := Option (Bool × Fin 2)
abbrev bar : Role := none
abbrev out (q : Fin 2) : Role := some (false, q)
abbrev land (q : Fin 2) : Role := some (true, q)

/-- The barrier semaphore; -/
abbrev barS : Sem sig := (SemArray.scalar (sig.barrier 0 rfl) : Sems sig S_).sem
/-- the send semaphore of half `q`, as the kernel names it; -/
abbrev outS : Fin 2 → DmaSem sig
  | 0 => ((cc0_scratch2.slice (Rect.unit (s := S2) ![0] S1.size inb_S2_S1_0)).squeeze S_ squeezes_S1_S_).sem
  | 1 => ((cc0_scratch2.slice (Rect.unit (s := S2) ![1] S1.size inb_S2_S1_1)).squeeze S_ squeezes_S1_S_).sem
/-- its receive semaphore. -/
abbrev landS : Fin 2 → DmaSem sig
  | 0 => ((cc0_scratch3.slice (Rect.unit (s := S2) ![0] S1.size inb_S2_S1_0)).squeeze S_ squeezes_S1_S_).sem
  | 1 => ((cc0_scratch3.slice (Rect.unit (s := S2) ![1] S1.size inb_S2_S1_1)).squeeze S_ squeezes_S1_S_).sem

/-- The semaphore of a role, -/
abbrev semOf : Role → SemLoc sig
  | none => .reg barS
  | some (false, q) => .dma (outS q)
  | some (true, q) => .dma (landS q)
/-- the role of a semaphore, if it has one, -/
def roleOf (sm : SemLoc sig) : Option Role := [bar, out 0, out 1, land 0, land 1].find? fun r => decide (semOf r = sm)
/-- and that these are inverse to each other. -/
theorem roleOf_semOf (r : Role) : roleOf (semOf r) = some r := by revert r; decide

/-- Different roles have different semaphores. -/
theorem semOf_injective : Function.Injective semOf := fun r r' h =>
  Option.some.inj ((roleOf_semOf r).symm.trans ((congrArg roleOf h).trans (roleOf_semOf r')))

/-- The cell of role `r` on device `c`. -/
abbrev cell (cr : Dev nD × Role) : GSem nD τ sig := ((cr.1 : Thread nD τ), semOf cr.2)

/-- Different devices or roles have different cells. -/
theorem cell_injective : Function.Injective cell := by
  rintro ⟨c, r⟩ ⟨c', r'⟩ h
  have hc : c = c' := congrArg (fun g : GSem nD τ sig => g.1.1) h
  have hr : r = r' := semOf_injective (congrArg Prod.snd h)
  rw [hc, hr]

/-- Whose copy or signal pays the cells that device `c` pays: its own for a copy out, the peer's for the others. -/
abbrev payee (c : Dev nD) : Role → Dev nD
  | some (false, _) => c
  | _ => peer c

/-- The credit of one copy. -/
abbrev N : ℕ := (landSlot 0).view.dmaCredit
/-- A copy carries some credit. -/
theorem N_pos : 0 < N := View.dmaCredit_pos _ (by decide)

/-- What a cell is paid. -/
def unitsOf : Role → ℕ
  | none => 1
  | some _ => N
/-- Every cell is paid something. -/
theorem unitsOf_pos (r : Role) : 0 < unitsOf r := by cases r; exacts [Nat.one_pos, N_pos]

/-! ## What is handed over -/

variable (m : (ℓ : Loc nD τ sig) → Buf (Elt F) ℓ)

/-- Device `c` holds slot `q` of its staging buffer, at contents `f` of the buffer; -/
def stagePts (c : Dev nD) (q : Fin 2) (f : (cc0_scratch0 : Ref sig .tc).ty.Contents (Elt F)) : sProp 𝕄 :=
  ((stageM : Memref sig .tc .vmem S2x128x256 .bf16).access (slot q)).loc (c : Thread nD τ)
    ↦[((stageM : Memref sig .tc .vmem S2x128x256 .bf16).access (slot q)).set]{fullShare} f
/-- of its landing buffer. -/
def landPts (c : Dev nD) (q : Fin 2) (f : (cc0_scratch1 : Ref sig .tc).ty.Contents (Elt F)) : sProp 𝕄 :=
  ((landM : Memref sig .tc .vmem S2x128x256 .bf16).access (slot q)).loc (c : Thread nD τ)
    ↦[((landM : Memref sig .tc .vmem S2x128x256 .bf16).access (slot q)).set]{fullShare} f

/-- The staging slot `q` of `c` holds what `c` sends of half `q`; -/
def staged (c : Dev nD) (q : Fin 2) : sProp 𝕄 :=
  iprop(∃ f, ⌜((stageM : Memref sig .tc .vmem S2x128x256 .bf16).access (slot q)).read (Elt F) f = sent m c q⌝ ∗ stagePts c q f)
/-- the landing slot `q` of `c` holds what `c`'s peer sends of half `q`. -/
def landed (c : Dev nD) (q : Fin 2) : sProp 𝕄 :=
  iprop(∃ f, ⌜((landM : Memref sig .tc .vmem S2x128x256 .bf16).access (slot q)).read (Elt F) f = sent m (peer c) q⌝ ∗ landPts c q f)

/-- What the wait on a cell of `c` hands to `c`. -/
def handed (c : Dev nD) : Role → sProp 𝕄
  | none => iprop((∃ f, landPts (peer c) 0 f) ∗ ∃ f, landPts (peer c) 1 f)
  | some (false, q) => iprop(∃ f, stagePts c q f)
  | some (true, q) => landed m c q

/-- What is handed over may be kept in a cell's invariant: a staging slot, -/
instance stagePts_storable (c : Dev nD) (q : Fin 2) (f) : BI.Storable (upEmb : UEmb _ 𝕄) (stagePts (F := F) c q f) := by
  unfold stagePts; infer_instance
/-- a landing slot, -/
instance landPts_storable (c : Dev nD) (q : Fin 2) (f) : BI.Storable (upEmb : UEmb _ 𝕄) (landPts (F := F) c q f) := by
  unfold landPts; infer_instance
/-- and so whatever any role hands over, -/
instance handed_storable (c : Dev nD) (r : Role) : BI.Storable (upEmb : UEmb _ 𝕄) (handed (F := F) m c r) := by
  rcases r with _ | ⟨_ | _, q⟩ <;> unfold handed <;> try unfold landed
  all_goals infer_instance

/-! ## The schedule and its tables -/

/-- One round of one duty at each of the five cells of each device; nothing at any other semaphore. -/
def plan : Rounds.Schedule (GSem nD τ sig) Unit 𝕄 where
  duties g r := if r = 0 ∧ g.1.2 = .tc ∧ (roleOf g.2).isSome then {()} else ∅
  unitless _ := False
  amount g _ _ := ((roleOf g.2).map unitsOf).getD 1
  payload g _ _ := ((roleOf g.2).map (handed m g.1.1)).getD iprop(emp)
  amount_pos g _ _ _ := by
    cases roleOf g.2
    · exact Nat.one_pos
    · exact unitsOf_pos _

/-- and every payload of the schedule. -/
instance plan_payload_storable (g : GSem nD τ sig) (r : ℕ) (d : Unit) : BI.Storable (upEmb : UEmb _ 𝕄) ((plan (F := F) m).payload g r d) := by
  show BI.Storable upEmb (((roleOf g.2).map (handed m g.1.1)).getD iprop(emp))
  cases roleOf g.2
  · show BI.Storable upEmb iprop(emp); infer_instance
  · exact handed_storable m _ _

/-- Each cell has its one duty in round 0, -/
theorem duties_cell (cr : Dev nD × Role) : (plan (F := F) m).duties (cell cr) 0 = {()} := by
  dsimp only [plan]; rw [roleOf_semOf]; exact if_pos ⟨rfl, rfl, rfl⟩
/-- and none later; -/
theorem duties_after (g : GSem nD τ sig) : ∀ r, 1 ≤ r → (plan (F := F) m).duties g r = ∅ :=
  fun r hr => by dsimp only [plan]; exact if_neg fun h => by omega
/-- the duty, as a member; -/
theorem duty_mem (cr : Dev nD × Role) : () ∈ (plan (F := F) m).duties (cell cr) 0 := by
  rw [duties_cell]; exact Finset.mem_singleton_self _
/-- its amount, -/
theorem amount_cell (cr : Dev nD × Role) : (plan (F := F) m).amount (cell cr) 0 () = unitsOf cr.2 := by
  dsimp only [plan]; rw [roleOf_semOf]; rfl
/-- what its owner waits for, -/
theorem expect_cell (cr : Dev nD × Role) : (plan (F := F) m).expect (cell cr) 0 = unitsOf cr.2 := by
  unfold Schedule.expect Schedule.amountOf; rw [duties_cell, Finset.sum_singleton, amount_cell]
/-- what is handed over, -/
theorem payload_cell (cr : Dev nD × Role) : (plan (F := F) m).payload (cell cr) 0 () = handed m cr.1 cr.2 := by
  dsimp only [plan]; rw [roleOf_semOf]; rfl
/-- and that the owner gets it all at its one wait. -/
theorem rest_cell (cr : Dev nD × Role) :
    bigSep ((plan (F := F) m).duties (cell cr) 0 \ ∅) (fun d => (plan (F := F) m).payload (cell cr) 0 d) = handed m cr.1 cr.2 := by
  rw [Finset.sdiff_empty, duties_cell, bigSep_singleton, payload_cell]

/-! ## What a device owes, and the levels -/

/-- Owed to one cell of the peer; -/
abbrev due (c : Dev nD) (r : Role) : CellTallies nD τ sig Unit := tallyAt (cell (peer c, r)) () (unitsOf r)
/-- after the first copy: the second landing; -/
def owed₂ (c : Dev nD) : CellTallies nD τ sig Unit := due c (land 1)
/-- after the signal: both landings; -/
def owed₁ (c : Dev nD) : CellTallies nD τ sig Unit := owed₂ c + due c (land 0)
/-- at launch: the signal too. -/
def owed₀ (c : Dev nD) : CellTallies nD τ sig Unit := owed₁ c + due c bar

/-- The semaphores of the devices' cores have a level. -/
def L (g : GSem nD τ sig) : Finset Unit := if g.1.2 = .tc then {()} else ∅
/-- A landing is above the barrier, the barrier above everything else. -/
def rank : Role → ℕ
  | none => 1
  | some (false, _) => 0
  | some (true, _) => 2
/-- The level of a semaphore: its role's, the lowest if it has no role. -/
def lv (g : GSem nD τ sig) (_ : Unit) : ℕ := ((roleOf g.2).map rank).getD 0

/-- Where there is a level, where there is none, and what a cell's is. -/
theorem L_of_ne (g : GSem nD τ sig) (h : g.1.2 ≠ .tc) : L g = ∅ := if_neg h
theorem L_tc (c : Dev nD) (sm : SemLoc sig) : L ((c : Thread nD τ), sm) = {()} := if_pos rfl
theorem lv_cell (cr : Dev nD × Role) (u : Unit) : lv (cell cr) u = rank cr.2 := by
  unfold lv; rw [roleOf_semOf]; rfl

/-- A debt to one cell is a debt to that cell only. -/
theorem due_pos {c : Dev nD} {r : Role} {g : GSem nD τ sig} {u : Unit} (h : 0 < due c r g u) : g = cell (peer c, r) := by
  by_contra hn
  rw [tallyAt_apply, if_neg fun h' => hn h'.1] at h
  exact Nat.lt_irrefl 0 h

/-- After the signal a device owes landings of the peer only; -/
theorem owed₁_pos {c : Dev nD} {g : GSem nD τ sig} {u : Unit} (h : 0 < owed₁ c g u) : ∃ q, g = cell (peer c, land q) := by
  unfold owed₁ owed₂ at h
  rw [Pi.add_apply, Finsupp.add_apply] at h
  rcases Nat.add_pos_iff_pos_or_pos.mp h with h | h
  exacts [⟨1, due_pos h⟩, ⟨0, due_pos h⟩]
/-- before it, cells of the peer of rank at least one. -/
theorem owed₀_pos {c : Dev nD} {g : GSem nD τ sig} {u : Unit} (h : 0 < owed₀ c g u) : ∃ r, 0 < rank r ∧ g = cell (peer c, r) := by
  unfold owed₀ at h
  rw [Pi.add_apply, Finsupp.add_apply] at h
  rcases Nat.add_pos_iff_pos_or_pos.mp h with h | h
  · obtain ⟨q, hq⟩ := owed₁_pos h; exact ⟨land q, Nat.two_pos, hq⟩
  · exact ⟨bar, Nat.one_pos, due_pos h⟩

/-- A device may wait on a semaphore of its own while it owes only cells of devices' tensor cores of a higher level. -/
theorem mayWait_below (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The wait on the barrier: only landings are owed. -/
theorem mayWait_bar (c : Dev nD) : (levAts L lv : sProp 𝕄) ⊢ MayWait (c : Thread nD τ) (semOf bar) () (owed₁ c) :=
  mayWait_below c _ _ fun g u hg => by
    obtain ⟨q, rfl⟩ := owed₁_pos hg
    exact ⟨rfl, by rw [lv_cell, show (((c : Thread nD τ), semOf bar) : GSem nD τ sig) = cell (c, bar) from rfl, lv_cell]; exact Nat.lt_succ_self 1⟩

/-- A wait on a semaphore without a role (a window's), at launch. -/
theorem mayWait_other (c : Dev nD) (sm : SemLoc sig) (hs : roleOf sm = none) :
    (levAts L lv : sProp 𝕄) ⊢ MayWait (c : Thread nD τ) sm () (owed₀ c) :=
  mayWait_below c _ _ fun g u hg => by
    obtain ⟨r, hr, rfl⟩ := owed₀_pos hg
    refine ⟨rfl, ?_⟩
    rw [lv_cell]; unfold lv; rw [hs]; exact hr

/-! ## The records every device holds, and what is one device's -/

/-- Every cell's invariant, under the names `K`, and the mark that its round 0 is reached: persistent, so all may hold them. -/
def records (K : Dev nD × Role → ℕ) : sProp 𝕄 :=
  iprop((bigSep Finset.univ fun cr : Dev nD × Role => cellInv swapE (plan m) (K cr) (cell cr))
    ∗ bigSep Finset.univ fun cr : Dev nD × Role => reached swapE (cell cr) 0)

/-- The records are persistent. -/
instance records_persistent (K : Dev nD × Role → ℕ) : BI.Persistent (records m K) := by unfold records; infer_instance

/-- Any one cell's invariant and mark. -/
theorem record_at (K : Dev nD × Role → ℕ) (cr : Dev nD × Role) :
    records m K ⊢ iprop(cellInv swapE (plan m) (K cr) (cell cr) ∗ reached swapE (cell cr) 0) :=
  Entails.trans (by unfold records; exact .refl _) (sep_mono (bigSep_elim (Finset.mem_univ cr)) (bigSep_elim (Finset.mem_univ cr)))

/-- Device `c`'s positions at its own cells, -/
def positions (c : Dev nD) : sProp 𝕄 := bigSep Finset.univ fun r : Role => atPos swapE (cell (c, r)) 0 ∅ 0
/-- and the tokens of the duties it pays. -/
def tokens (c : Dev nD) : sProp 𝕄 := bigSep Finset.univ fun r : Role => dutyTok swapE (cell (payee c r, r)) 0 ()

/-- A family over the five roles written out. -/
theorem bigSep_role (Φ : Role → sProp 𝕄) : bigSep Finset.univ Φ = iprop(Φ bar ∗ Φ (out 0) ∗ Φ (out 1) ∗ Φ (land 0) ∗ Φ (land 1)) :=
  bigSep_univ_eq_bigSepL [bar, out 0, out 1, land 0, land 1] (by decide) (by decide) Φ

end Cert.KernelIdeal.Swap

end
-- ==== Proof.KernelIdeal.Steps.lean ====
/-
  The kernel's steps, each proved once for either half `q` and any device `c`:

    `ready_signal`  the signal to the peer's barrier, which hands over the landing buffer;
    `ready_wait`    the wait on the own barrier, which gets the peer's landing buffer;
    `stage_half`    half `q` of the input rounded into staging slot `q`;
    `send_half`     the copy of staging slot `q` into the peer's landing slot `q`;
    `copy_wait`     the wait for the peer's copy of half `q`, or for the own copy of it to have been read;
    `add_half`      half `q` of the input plus the landed half, stored in half `q` of the result;
    `cell_back`     a cell that has been waited for, closed: its counter is zero and the device's again.

  Each is a rule for the head of a program: what the step needs, then what the rest of the program gets.
-/
module

public import proofs.«01_k».proof.Proof.KernelIdeal.Protocol

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

/-- The program has no loop that needs a measure. -/
abbrev 𝒱₀ : Variants := Variants.none

variable (m : (ℓ : Loc nD τ sig) → Buf (Elt F) ℓ) (K : Dev nD × Role → ℕ) (c : Dev nD)

/-- Device `c` holds its input block, at `f`; -/
def inPts (f : (cc0_stg0_0 : Ref sig .tc).ty.Contents (Elt F)) : sProp 𝕄 :=
  (inM : Memref sig .tc .vmem S256x256 .f32).view.loc (c : Thread nD τ) ↦{fullShare} f
/-- its result block. -/
def outPts (f : (cc0_stg1_0 : Ref sig .tc).ty.Contents (Elt F)) : sProp 𝕄 :=
  (outM : Memref sig .tc .vmem S256x256 .f32).view.loc (c : Thread nD τ) ↦{fullShare} f

/-! ## The barrier -/

/-- The signal to the peer: the device gives its two landing slots and owes the landings only. -/
theorem ready_signal {α : Type} {Q : α → sProp 𝕄} {k : PUnit → Prog (TpuEff nD τ sig (Elt F) Λ₀ .tc) α}
    (n : Dev nD) (hn : n = peer c) (W : Waits sig Unit) :
    iprop(records m K ∗ owes (c : Thread nD τ) (owed₀ c) W ∗ dutyTok swapE (cell (peer c, bar)) 0 ()
        ∗ (∃ f, landPts c 0 f) ∗ ∃ f, landPts c 1 f)
      ⊢ iprop((owes (c : Thread nD τ) (owed₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  iintro ⟨#HR, HO, Ht, H0, H1⟩
  ihave Hc := (record_at m K (peer c, bar)) $$ HR
  icases Hc with ⟨#HI, #Hr⟩
  iapply (Rounds.wp_signal 𝒱₀ swapE (plan m) (c : Thread nD τ) none (dst := (peer c : Thread nD τ)) (κ := K (peer c, bar))
    (d := ()) (duty_mem m (peer c, bar)) (amount_cell m (peer c, bar)) () (owed₁ c) rfl)
  isplitr; · iexact HI
  isplitl [HO]; · iexact HO
  isplitl [Ht]; · iexact Ht
  isplitl [H0 H1]
  · iapply (Entails.of_eq (payload_cell m (peer c, bar)).symm)
    unfold handed; dsimp only; rw [peer_peer]
    isplitl [H0] <;> iassumption
  iexact Hr

/-- The wait on the own barrier: the device gets its peer's two landing slots. -/
theorem ready_wait {α : Type} {Q : α → sProp 𝕄} {k : PUnit → Prog (TpuEff nD τ sig (Elt F) Λ₀ .tc) α}
    (W : Waits sig Unit) :
    iprop(records m K ∗ levAts L lv ∗ cred (tallyAt (cell (c, bar)) () 1) ∗ owes (c : Thread nD τ) (owed₁ c) W
        ∗ atPos swapE (cell (c, bar)) 0 ∅ 0)
      ⊢ iprop(((owes (c : Thread nD τ) (owed₁ c) (insert (semOf bar, ()) W) ∗ atPos swapE (cell (c, bar)) 1 ∅ 0
              ∗ (∃ f, landPts (peer c) 0 f) ∗ ∃ f, landPts (peer c) 1 f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨#HR, #Hl, Hcr, HO, Hat⟩ Hk
  ihave Hc := (record_at m K (c, bar)) $$ HR
  icases Hc with ⟨#HI, -⟩
  iapply (Rounds.wp_wait_rest_token 𝒱₀ swapE (plan m) (c : Thread nD τ) none (κ := K (c, bar))
      (wpE_semWait_eq 𝒱₀ (c : Thread nD τ) none Set.univ) (Set.mem_univ _) () (O := owed₁ c) (W := W) (R := 0) (m := 0) (T := ∅)
      ((Nat.zero_add 1).trans (expect_cell m (c, bar)).symm)) $$ [Hcr HO Hat]
  · isplitr; · iexact HI
    isplitl [Hcr]; · iexact Hcr
    isplitl [HO]; · iexact HO
    isplitr; · iapply (mayWait_bar c); iexact Hl
    iexact Hat
  iintro ⟨HO, Hat, -, Hp⟩
  ihave Hp := (Entails.of_eq (rest_cell m (c, bar))) $$ Hp
  iapply Hk
  isplitl [HO]; · iexact HO
  isplitl [Hat]; · iexact Hat
  unfold handed
  iexact Hp

/-! ## The copies -/

/-- Every slot's copy carries the same credit. -/
theorem landSlot_credit (q : Fin 2) : (landSlot q).view.dmaCredit = N := by fin_cases q <;> rfl
theorem stageSlot_credit (q : Fin 2) : (stageSlot q).view.dmaCredit = N := by fin_cases q <;> rfl

/-- Half `q` of the input is loaded, rounded, and stored in staging slot `q`, whatever that held. -/
theorem stage_half {α : Type} {Q : α → sProp 𝕄} {k : PUnit → Prog (TpuEff nD τ sig (Elt F) Λ₀ .tc) α}
    (q : Fin 2)
    {hl₁ : (inM : Memref sig .tc .vmem S256x256 .f32).view.LoadsAt (half q).toLoadRect}
    {hl₂ : (stageM : Memref sig .tc .vmem S2x128x256 .bf16).view.LoadsAt (slot q).toLoadRect}
    {hs : ((stageM : Memref sig .tc .vmem S2x128x256 .bf16).access (slot q)).Stores Finset.univ}
    {hm : (Finset.univ : Finset (slot q).shape.Idx) = Finset.univ ∨ ∀ a, (slot q).stride a = 1} :
    iprop(inPts c (xAt m c) ∗ ∃ f, stagePts c q f)
      ⊢ iprop(((inPts c (xAt m c) ∗ staged m c q) -∗ wp frame (wpE (defs₀ (F := F)) 𝒱₀ (c : Thread nD τ) none) Set.univ (k ⟨⟩) Q)
          -∗ wp frame (wpE (defs₀ (F := F)) 𝒱₀ (c : Thread nD τ) none) Set.univ
              (.op (.load inM (half q).toLoadRect hl₁) fun v => .op (.load stageM (slot q).toLoadRect hl₂) fun _ =>
                .op (.store stageM (slot q) (k0_pay2 v) Finset.univ hs hm) k) Q) := by
  unfold inPts stagePts
  iintro ⟨Hx, ⟨%f, Hs⟩⟩ Hk
  iapply (wp_load_rect 𝒱₀ (c : Thread nD τ) none Set.univ (m := inM) (r := half q) (Finset.subset_univ _)) $$ Hx; iintro Hx
  iapply (wp_load_rect 𝒱₀ (c : Thread nD τ) none Set.univ (m := stageM) (r := slot q) (Finset.Subset.refl _)) $$ Hs; iintro Hs
  iapply (wp_store 𝒱₀ (c : Thread nD τ) none Set.univ (m := stageM) (r := slot q) (Mk := Finset.univ)
    (S := ((stageM : Memref sig .tc .vmem S2x128x256 .bf16).access (slot q)).set) (Finset.Subset.refl _)) $$ Hs; iintro Hs
  iapply Hk
  isplitl [Hx]; · iexact Hx
  unfold staged stagePts
  iexists _
  isplitr
  swap; · iexact Hs
  ipureintro
  exact View.read_write_univ _ _

/-- The copy of staging slot `q` into the peer's landing slot `q`: the landing owed for it is paid, and a credit for the
    wait on the own copy is got. -/
theorem send_half {α : Type} {Q : α → sProp 𝕄} {k : PUnit → Prog (TpuEff nD τ sig (Elt F) Λ₀ .tc) α}
    (q : Fin 2) (n : Dev nD) (hn : n = peer c)
    {hsc : (landSlot q : Memref sig (Dev.tc n : Thread nD τ).2.kind .vmem S128x256 .bf16).view.ref.isScScratch = false}
    {hsrc : (stageSlot q).view.WordExact} {hdst : (landSlot q).view.WordExact}
    {hsem : DmaTarget.Typed .vmem (.dma (landS q))
      (.remote (Dev.tc n : Thread nD τ) (landSlot q : Memref sig .tc .vmem S128x256 .bf16) (.dma (outS q)) hsc)}
    (O O' : CellTallies nD τ sig Unit) (hO : O = O' + due c (land q)) (W : Waits sig Unit) :
    iprop(records m K ∗ staged m c q ∗ (∃ f, landPts (peer c) q f) ∗ owes (c : Thread nD τ) O W
        ∗ dutyTok swapE (cell (c, out q)) 0 () ∗ dutyTok swapE (cell (peer c, land q)) 0 ())
      ⊢ iprop(((cred (tallyAt (cell (c, out q)) () N) ∗ owes (c : Thread nD τ) O' W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stageSlot q) (.remote (Dev.tc n : Thread nD τ) (landSlot q) (.dma (outS q)) hsc) (.dma (landS q)) hsrc hdst hsem) k) Q) := by
  subst hn
  unfold staged
  iintro ⟨#HR, ⟨%f, %hf, Hs⟩, ⟨%g, Hl⟩, HO, Ht₁, Ht₂⟩
  ihave Hc := (record_at m K (c, out q)) $$ HR
  icases Hc with ⟨#HI₁, #Hr₁⟩
  ihave Hc := (record_at m K (peer c, land q)) $$ HR
  icases Hc with ⟨#HI₂, #Hr₂⟩
  have hs : (stagePts c q f : sProp 𝕄) = ((stageSlot q).view.loc (c : Thread nD τ) ↦[(stageSlot q).view.set]{fullShare} f) := by
    rw [stageSlot_set]; rfl
  have hl (g) : (landPts (peer c) q g : sProp 𝕄) = ((landSlot q).view.loc (peer c : Thread nD τ) ↦[(landSlot q).view.set]{fullShare} g) := by
    rw [landSlot_set]; rfl
  iapply (Rounds.wp_send_pointsTo 𝒱₀ swapE (plan m) (c : Thread nD τ) none (κ₁ := K (c, out q)) (κ₂ := K (peer c, land q))
    (r₁ := 0) (r₂ := 0) (d₁ := ()) (d₂ := ()) (fs := f) (fd := g) (q := fullShare) (duty_mem m (c, out q)) (duty_mem m (peer c, land q)) () () N (landSlot_credit q)
    (amount_cell m (c, out q)) (amount_cell m (peer c, land q)) O' hO (W := W)
    (by
      rw [← hs, show ((plan m).payload ((c : Thread nD τ), SemLoc.dma (outS q)) 0 () : sProp 𝕄) = handed m c (out q) from payload_cell m (c, out q)]
      unfold handed
      iintro H; iexists f; iexact H)
    (by
      rw [← hl, show ((plan m).payload ((peer c : Thread nD τ), SemLoc.dma (landS q)) 0 () : sProp 𝕄) = handed m (peer c) (land q) from payload_cell m (peer c, land q)]
      unfold handed; dsimp only; unfold landed
      iintro H; iexists _
      isplitr
      swap; · iexact H
      ipureintro
      rw [read_copied, hf, peer_peer]))
  isplitr; · iexact HI₁
  isplitr; · iexact HI₂
  isplitl [Hs]; · iapply (Entails.of_eq hs); iexact Hs
  isplitl [Hl]; · iapply (Entails.of_eq (hl g)); iexact Hl
  isplitl [HO]; · iexact HO
  isplitl [Ht₁]; · iexact Ht₁
  isplitr; · iexact Hr₁
  isplitl [Ht₂]; · iexact Ht₂
  iexact Hr₂

/-- A wait on a cell of a copy, nothing being owed: what the cell hands over is got. -/
theorem copy_wait {α : Type} {Q : α → sProp 𝕄} {k : PUnit → Prog (TpuEff nD τ sig (Elt F) Λ₀ .tc) α}
    (b : Bool × Fin 2) {sem : DmaSem sig} (hsem : semOf (some b) = .dma sem) {src dst : Memref sig .tc .vmem S128x256 .bf16}
    (hN : dst.view.dmaCredit = N) {hsrc : src.view.WordExact} {hdst : dst.view.WordExact} (W : Waits sig Unit) :
    iprop(records m K ∗ cred (tallyAt (cell (c, some b)) () N) ∗ owes (c : Thread nD τ) 0 W ∗ atPos swapE (cell (c, some b)) 0 ∅ 0)
      ⊢ iprop(((owes (c : Thread nD τ) 0 (insert (semOf (some b), ()) W) ∗ atPos swapE (cell (c, some b)) 1 ∅ 0 ∗ handed m c (some b))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  iintro ⟨#HR, Hcr, HO, Hat⟩ Hk
  ihave Hc := (record_at m K (c, some b)) $$ HR
  icases Hc with ⟨#HI, -⟩
  iapply (Rounds.wp_wait_rest_token 𝒱₀ swapE (plan m) (c : Thread nD τ) none (κ := K (c, some b)) (sm := semOf (some b)) (k' := N)
      (fun X => by rw [hsem, ← hN]; exact wpE_waitDma2_eq 𝒱₀ (c : Thread nD τ) none Set.univ X)
      (Set.mem_univ _) () (O := 0) (W := W) (R := 0) (m := 0) (T := ∅)
      ((Nat.zero_add N).trans (expect_cell m (c, some b)).symm)) $$ [Hcr HO Hat]
  · isplitr; · iexact HI
    isplitl [Hcr]; · iexact Hcr
    isplitl [HO]; · iexact HO
    isplitr; · rw [MayWait_zero]; iempintro
    iexact Hat
  iintro ⟨HO, Hat, -, Hp⟩
  ihave Hp := (Entails.of_eq (rest_cell m (c, some b))) $$ Hp
  iapply Hk
  isplitl [HO]; · iexact HO
  isplitl [Hat]; · iexact Hat
  iexact Hp

/-! ## The sum -/

/-- Half `q` of the input and the landed half are loaded and their sum is stored in half `q` of the result. -/
theorem add_half {α : Type} {Q : α → sProp 𝕄} {k : PUnit → Prog (TpuEff nD τ sig (Elt F) Λ₀ .tc) α}
    (q : Fin 2) (f : (cc0_stg1_0 : Ref sig .tc).ty.Contents (Elt F))
    {hl₁ : (inM : Memref sig .tc .vmem S256x256 .f32).view.LoadsAt (half q).toLoadRect}
    {hl₂ : (landM : Memref sig .tc .vmem S2x128x256 .bf16).view.LoadsAt (slot q).toLoadRect}
    {hl₃ : (outM : Memref sig .tc .vmem S256x256 .f32).view.LoadsAt (half q).toLoadRect}
    {hs : ((outM : Memref sig .tc .vmem S256x256 .f32).access (half q)).Stores Finset.univ}
    {hm : (Finset.univ : Finset (half q).shape.Idx) = Finset.univ ∨ ∀ a, (half q).stride a = 1} :
    iprop(inPts c (xAt m c) ∗ landed m c q ∗ outPts c f)
      ⊢ iprop(((inPts c (xAt m c) ∗ (∃ g, landPts c q g)
              ∗ outPts c (((outM : Memref sig .tc .vmem S256x256 .f32).access (half q)).write (Elt F) f (sumHalf m c q) Finset.univ))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load inM (half q).toLoadRect hl₁) fun v => .op (.load landM (slot q).toLoadRect hl₂) fun w =>
                .op (.load outM (half q).toLoadRect hl₃) fun _ =>
                .op (.store outM (half q) (k0_pay1 v w) Finset.univ hs hm) k) Q) := by
  unfold inPts outPts landed landPts
  iintro ⟨Hx, ⟨%g, %hg, Hl⟩, Ho⟩ Hk
  iapply (wp_load_rect 𝒱₀ (c : Thread nD τ) none Set.univ (m := inM) (r := half q) (Finset.subset_univ _)) $$ Hx; iintro Hx
  iapply (wp_load_rect 𝒱₀ (c : Thread nD τ) none Set.univ (m := landM) (r := slot q) (Finset.Subset.refl _)) $$ Hl; iintro Hl
  iapply (wp_load_rect 𝒱₀ (c : Thread nD τ) none Set.univ (m := outM) (r := half q) (Finset.subset_univ _)) $$ Ho; iintro Ho
  iapply (wp_store 𝒱₀ (c : Thread nD τ) none Set.univ (m := outM) (r := half q) (Mk := Finset.univ) (Finset.subset_univ _)) $$ Ho; iintro Ho
  iapply Hk
  isplitl [Hx]; · iexact Hx
  isplitl [Hl]; · iexists g; iexact Hl
  rw [hg]
  iexact Ho

/-! ## The end -/

/-- A cell that has been waited for closes: its counter is zero and the device's again. -/
theorem cell_back (r : Role) :
    iprop(records m K ∗ atPos swapE (cell (c, r)) 1 ∅ 0) ⊢ |={Set.univ}=> semVal (cell (c, r)) 0 :=
  (sep_mono_left ((record_at m K (c, r)).trans (Laws.sep_and.trans and_elimL))).trans
    (Rounds.cell_close swapE (plan m) (Set.mem_univ (K (c, r))) (fun h => h) (R := 1) (duties_after m (cell (c, r))))

end Cert.KernelIdeal.Swap

end
-- ==== Proof.KernelIdeal.Body.lean ====
/-
  The kernel's body on any device `c`, run once: from the device's share of the exchange (`started`), its input block and
  any result block, to the result block `outAt` and every cell at zero (`ended`). The rules applied are the steps of
  Steps.lean, in the program's order.
-/
module

public import proofs.«01_k».proof.Proof.KernelIdeal.Steps
public import proofs.«01_k».proof.Proof.Gen.KernelIdeal.Points

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ)

/-! ## What a device holds before and after -/

/-- What the peer will pay into `c`'s cells. -/
def credits (c : Dev nD) : sProp 𝕄 :=
  iprop(cred (tallyAt (cell (c, bar)) () 1) ∗ cred (tallyAt (cell (c, land 0)) () N) ∗ cred (tallyAt (cell (c, land 1)) () N))

/-- The device's share of the exchange: the records of all cells, its positions, its tokens, its credits. -/
def share (c : Dev nD) : sProp 𝕄 := iprop((∃ K, records m K ∗ positions c ∗ tokens c) ∗ credits c ∗ levAts L lv)

/-- Its two scratch buffers, each whole, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Its five counters, at zero. -/
def zeros (c : Dev nD) : sProp 𝕄 := bigSep Finset.univ fun r : Role => semVal (cell (c, r)) 0

/-- What a device starts the body with, -/
def started (c : Dev nD) : sProp 𝕄 := iprop(share m c ∗ scratch c)
/-- and what it ends with. -/
def ended (c : Dev nD) : sProp 𝕄 := iprop(zeros c ∗ scratch (F := F) c)

/-- A slot's part of a scratch buffer, as a set of the buffer's elements. -/
theorem stagePts_eq (c : Dev nD) (q : Fin 2) (f : (cc0_scratch0 : Ref sig .tc).ty.Contents (Elt F)) :
    (stagePts c q f : sProp 𝕄) = ((c : Thread nD τ).loc cc0_scratch0 ↦[(slot q).set]{fullShare} f) := by
  unfold stagePts; rw [View.set_slice_whole]
theorem landPts_eq (c : Dev nD) (q : Fin 2) (f : (cc0_scratch1 : Ref sig .tc).ty.Contents (Elt F)) :
    (landPts c q f : sProp 𝕄) = ((c : Thread nD τ).loc cc0_scratch1 ↦[(slot q).set]{fullShare} f) := by
  unfold landPts; rw [View.set_slice_whole]

/-- The scratch buffers are their slots; -/
theorem scratch_split (c : Dev nD) : (scratch c : sProp 𝕄)
    ⊢ iprop(((∃ f, stagePts c 0 f) ∗ ∃ f, stagePts c 1 f) ∗ (∃ f, landPts c 0 f) ∗ ∃ f, landPts c 1 f) :=
  BIClass.sep_mono
    (Ring.slots2_split (ℓ := (c : Thread nD τ).loc cc0_scratch0) (q := fullShare) (fun q => (slot q).set) slot_disjoint slot_cover (stagePts c 0) (stagePts c 1) (stagePts_eq c 0) (stagePts_eq c 1))
    (Ring.slots2_split (ℓ := (c : Thread nD τ).loc cc0_scratch1) (q := fullShare) (fun q => (slot q).set) slot_disjoint slot_cover (landPts c 0) (landPts c 1) (landPts_eq c 0) (landPts_eq c 1))
/-- and the slots together the buffers. -/
theorem scratch_join (c : Dev nD) : iprop(((∃ f, stagePts c 0 f) ∗ ∃ f, stagePts c 1 f) ∗ (∃ f, landPts c 0 f) ∗ ∃ f, landPts c 1 f)
    ⊢ (scratch c : sProp 𝕄) :=
  BIClass.sep_mono
    (Ring.slots2_join (ℓ := (c : Thread nD τ).loc cc0_scratch0) (q := fullShare) (fun q => (slot q).set) slot_disjoint slot_cover (stagePts c 0) (stagePts c 1) (stagePts_eq c 0) (stagePts_eq c 1))
    (Ring.slots2_join (ℓ := (c : Thread nD τ).loc cc0_scratch1) (q := fullShare) (fun q => (slot q).set) slot_disjoint slot_cover (landPts c 0) (landPts c 1) (landPts_eq c 0) (landPts_eq c 1))

/-- What the waits on the copies' cells hand over. -/
theorem handed_out (c : Dev nD) (q : Fin 2) : (handed m c (some (false, q)) : sProp 𝕄) = iprop(∃ f, stagePts c q f) := rfl
theorem handed_land (c : Dev nD) (q : Fin 2) : (handed m c (some (true, q)) : sProp 𝕄) = landed m c q := rfl

/-- All five cells, waited for, close. -/
theorem cells_back (K : Dev nD × Role → ℕ) (c : Dev nD) :
    iprop(records m K ∗ bigSep Finset.univ fun r : Role => atPos swapE (cell (c, r)) 1 ∅ 0) ⊢ |={Set.univ}=> zeros c :=
  (BI.bigSep_with_persistent fun r _ => cell_back m K c r).trans (bigSep_fupd _ _)

/-! ## The run of the body -/

/-- The second half's payloads are the first half's. -/
theorem pay3_eq : (k0_pay3 (F := F)) = k0_pay2 := rfl
theorem pay4_eq : (k0_pay4 (F := F)) = k0_pay1 := rfl

set_option maxHeartbeats 800000 in
/-- From its share, its scratch and its blocks a device runs the body to the sum of its block and what its peer sends. -/
theorem body_run (c : Dev nD) (W : Waits sig Unit) (f : (cc0_stg1_0 : Ref sig .tc).ty.Contents (Elt F)) (Kt : PUnit → sProp 𝕄) :
    iprop(started m c ∗ owes (c : Thread nD τ) (owed₀ c) W ∗ inPts c (xAt m c) ∗ outPts c f
        ∗ ((ended c ∗ (∃ W', owes (c : Thread nD τ) 0 W') ∗ inPts c (xAt m c) ∗ outPts c (outAt m c)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId, pay3_eq, pay4_eq]
  unfold started share credits positions tokens
  rw [bigSep_role, bigSep_role]
  iintro ⟨⟨⟨⟨%K, #HR, ⟨HaB, HaO0, HaO1, HaL0, HaL1⟩, ⟨HtB, HtO0, HtO1, HtL0, HtL1⟩⟩, ⟨HcB, HcL0, HcL1⟩, #Hlev⟩, Hscr⟩, HO, Hx, Ho, Hk⟩
  ihave Hs := (scratch_split c) $$ Hscr
  icases Hs with ⟨⟨Hs0, Hs1⟩, Hl0, Hl1⟩
  iapply (ready_signal m K c _ (signal_dev c) W) $$ [HO HtB Hl0 Hl1]
  · isplitr; · iexact HR
    isplitl [HO]; · iexact HO
    isplitl [HtB]; · iexact HtB
    isplitl [Hl0] <;> iassumption
  iintro HO
  iapply (ready_wait m K c W) $$ [HcB HO HaB]
  · isplitr; · iexact HR
    isplitr; · iexact Hlev
    isplitl [HcB]; · iexact HcB
    isplitl [HO] <;> iassumption
  iintro ⟨HO, HaB, Hl0, Hl1⟩
  iapply (stage_half m c 0) $$ [Hx Hs0]
  · isplitl [Hx] <;> iassumption
  iintro ⟨Hx, Hs0⟩
  iapply (send_half m K c 0 _ (copy0_dev c) (owed₁ c) (owed₂ c) rfl) $$ [Hs0 Hl0 HO HtO0 HtL0]
  · isplitr; · iexact HR
    isplitl [Hs0]; · iexact Hs0
    isplitl [Hl0]; · iexact Hl0
    isplitl [HO]; · iexact HO
    isplitl [HtO0] <;> iassumption
  iintro ⟨HcO0, HO⟩
  iapply (stage_half m c 1) $$ [Hx Hs1]
  · isplitl [Hx] <;> iassumption
  iintro ⟨Hx, Hs1⟩
  iapply (send_half m K c 1 _ (copy1_dev c) (owed₂ c) 0 (zero_add _).symm) $$ [Hs1 Hl1 HO HtO1 HtL1]
  · isplitr; · iexact HR
    isplitl [Hs1]; · iexact Hs1
    isplitl [Hl1]; · iexact Hl1
    isplitl [HO]; · iexact HO
    isplitl [HtO1] <;> iassumption
  iintro ⟨HcO1, HO⟩
  iapply (copy_wait m K c (true, 0) rfl (landSlot_credit 0)) $$ [HcL0 HO HaL0]
  · isplitr; · iexact HR
    isplitl [HcL0]; · iexact HcL0
    isplitl [HO] <;> iassumption
  iintro ⟨HO, HaL0, Hl0⟩
  ihave Hl0 := (Entails.of_eq (handed_land m c 0)) $$ Hl0
  iapply (add_half m c 0 f) $$ [Hx Hl0 Ho]
  · isplitl [Hx]; · iexact Hx
    isplitl [Hl0] <;> iassumption
  iintro ⟨Hx, Hl0, Ho⟩
  iapply (copy_wait m K c (true, 1) rfl (landSlot_credit 1)) $$ [HcL1 HO HaL1]
  · isplitr; · iexact HR
    isplitl [HcL1]; · iexact HcL1
    isplitl [HO] <;> iassumption
  iintro ⟨HO, HaL1, Hl1⟩
  ihave Hl1 := (Entails.of_eq (handed_land m c 1)) $$ Hl1
  iapply (add_half m c 1 _) $$ [Hx Hl1 Ho]
  · isplitl [Hx]; · iexact Hx
    isplitl [Hl1] <;> iassumption
  iintro ⟨Hx, Hl1, Ho⟩
  rw [store_halves]
  iapply (copy_wait m K c (false, 0) rfl (stageSlot_credit 0)) $$ [HcO0 HO HaO0]
  · isplitr; · iexact HR
    isplitl [HcO0]; · iexact HcO0
    isplitl [HO] <;> iassumption
  iintro ⟨HO, HaO0, Hs0⟩
  ihave Hs0 := (Entails.of_eq (handed_out m c 0)) $$ Hs0
  iapply (copy_wait m K c (false, 1) rfl (stageSlot_credit 1)) $$ [HcO1 HO HaO1]
  · isplitr; · iexact HR
    isplitl [HcO1]; · iexact HcO1
    isplitl [HO] <;> iassumption
  iintro ⟨HO, HaO1, Hs1⟩
  ihave Hs1 := (Entails.of_eq (handed_out m c 1)) $$ Hs1
  imod (cells_back m K c) $$ [HaB HaO0 HaO1 HaL0 HaL1] with Hz
  · isplitr; · iexact HR
    rw [bigSep_role]
    isplitl [HaB]; · iexact HaB
    isplitl [HaO0]; · iexact HaO0
    isplitl [HaO1]; · iexact HaO1
    isplitl [HaL0] <;> iassumption
  rw [wp_ret]; imodintro
  iapply Hk
  isplitl [Hz Hs0 Hs1 Hl0 Hl1]
  · unfold ended
    isplitl [Hz]; · iexact Hz
    iapply (scratch_join c)
    isplitl [Hs0 Hs1]
    · isplitl [Hs0]; · iexact Hs0
      iexact Hs1
    isplitl [Hl0] <;> iassumption
  isplitl [HO]; · iexists _; iexact HO
  isplitl [Hx] <;> iassumption

end Cert.KernelIdeal.Swap

end
-- ==== Proof.KernelIdeal.Deal.lean ====
/-
  What the launch deals the devices: from the ghost state of all cells (`ghost₀`), all counters at zero and what the
  devices owe, to each device's share of the exchange (`Body.lean`'s `share`). A token is minted at the cell it pays into
  and given to the device that pays it (`tokens_moved`).
-/
module

public import proofs.«01_k».proof.Proof.KernelIdeal.Body
public import proofs.«01_k».proof.Proof.Gen.KernelIdeal.Launch
public import Idealize.ShloMosaic.Lib.Pipeline.Launch

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ)

/-! ## The cells and tokens that are minted -/

/-- All cells of the exchange. -/
def allCells : Finset (GSem nD τ sig) := Finset.univ.map ⟨cell, cell_injective⟩
/-- One token for each, for its one duty. -/
def allTokens : Finset (GSem nD τ sig × ℕ × Unit) :=
  Finset.univ.map ⟨fun cr => (cell cr, 0, ()), fun _ _ h => cell_injective (congrArg Prod.fst h)⟩
/-- The initial ghost state: the pipeline's, and the cells' and tokens'. -/
def ghost₀ : Ghost := (initOf (Pipeline.cells cfgs cellOf_inj) (Pipeline.launchToks cfgs cellOf_inj), initOf allCells allTokens)

/-- A family over all cells, device by device and role by role. -/
theorem over_cells (Φ : GSem nD τ sig → sProp 𝕄) :
    bigSep allCells Φ = bigSep Finset.univ fun c : Dev nD => bigSep Finset.univ fun r : Role => Φ (cell (c, r)) := by
  unfold allCells; rw [bigSep_map, bigSep_univ_prod]; rfl
/-- The same of the tokens. -/
theorem over_tokens (Φ : GSem nD τ sig × ℕ × Unit → sProp 𝕄) :
    bigSep allTokens Φ = bigSep Finset.univ fun c : Dev nD => bigSep Finset.univ fun r : Role => Φ (cell (c, r), 0, ()) := by
  unfold allTokens; rw [bigSep_map, bigSep_univ_prod]; rfl

/-- What is minted for device `c`'s own cells. -/
def minted (c : Dev nD) : sProp 𝕄 :=
  iprop((bigSep Finset.univ fun r : Role => roundState swapE (plan m) (cell (c, r)) 0)
    ∗ (bigSep Finset.univ fun r : Role => reached swapE (cell (c, r)) 0)
    ∗ positions c
    ∗ bigSep Finset.univ fun r : Role => dutyTok swapE (cell (c, r)) 0 ())

/-- The initial ghost state of the cells and tokens is every device's minted part. -/
theorem mint : BI.own (swapE (initOf allCells allTokens)) ⊢ (|==> bigSep Finset.univ (minted m) : sProp 𝕄) := by
  refine (Rounds.fund swapE (plan m) allCells allTokens).trans (BI.bupd_mono (show (_ : sProp 𝕄) ⊢ _ from Entails.of_eq ?_))
  unfold minted positions
  rw [over_cells, over_cells, over_cells, over_tokens]
  simp only [bigSep_sep']

/-! ## The counters -/

/-- The kernel's own semaphores are the four of the copies; -/
abbrev ownSem (k : Bool × Fin 2) : SemLoc sig := semOf (some k)
/-- they are semaphores of the kernel, all different; -/
theorem ownSemFacts : Pipeline.OwnSemFacts cfg0.spec ownSem := by decide

/-- the barrier semaphore is the one that outlives the kernel; -/
theorem unscoped_eq (c : Dev nD) : (unscopedSems0 c : sProp 𝕄) = semVal (cell (c, bar)) 0 := by
  unfold unscopedSems0; rw [bigSep_eq_bigSepL_of_eq [semOf bar] (by decide) (by decide)]; rfl
/-- the kernel's own counters, written out; -/
theorem own_eq (c : Dev nD) : (Pipeline.ownSems0 (Ix := Unit) (Name := ℕ) (U := Ghost) (Lvl := ℕ) (Val := Elt F) (τ := τ) ownSem c : sProp 𝕄)
    = iprop(semVal (cell (c, out 0)) 0 ∗ semVal (cell (c, out 1)) 0 ∗ semVal (cell (c, land 0)) 0 ∗ semVal (cell (c, land 1)) 0) := by
  rw [Pipeline.ownSems0_eq_of_list c ownSem [(false, 0), (false, 1), (true, 0), (true, 1)] (by decide) (by decide)]; rfl
/-- together they are the counters of the five cells. -/
theorem zeros_eq (c : Dev nD) : (zeros c : sProp 𝕄)
    = iprop(unscopedSems0 c ∗ Pipeline.ownSems0 (Ix := Unit) (Name := ℕ) (U := Ghost) (Lvl := ℕ) (Val := Elt F) (τ := τ) ownSem c) := by
  rw [own_eq, unscoped_eq]; unfold zeros; rw [bigSep_role]

/-! ## The deal -/

/-- Every cell's counter at zero and state become its invariant, under some name. -/
theorem make_invariants :
    iprop((bigSep Finset.univ fun cr : Dev nD × Role => semVal (cell cr) 0) ∗ bigSep Finset.univ fun cr : Dev nD × Role => roundState swapE (plan m) (cell cr) 0)
      ⊢ (|={Set.univ}=> ∃ K : Dev nD × Role → ℕ, bigSep Finset.univ fun cr => cellInv swapE (plan m) (K cr) (cell cr) : sProp 𝕄) := by
  rw [← bigSep_sep']
  exact ((bigSep_mono fun cr _ => (Rounds.body_intro swapE (plan m) (cell cr)).trans inv_alloc).trans (bigSep_fupd _ _)).trans
    (BI.fupd_mono (BI.bigSep_exists_pi Finset.univ fun (cr : Dev nD × Role) (κ : ℕ) => (cellInv swapE (plan m) κ (cell cr) : sProp 𝕄)))

/-- The tokens go from the cells' owners to the devices that pay: the same device for a copy out, the peer for the rest. -/
theorem tokens_moved :
    (bigSep Finset.univ fun c : Dev nD => bigSep Finset.univ fun r : Role => dutyTok swapE (cell (c, r)) 0 ())
      = (bigSep Finset.univ fun c : Dev nD => tokens c : sProp 𝕄) := by
  unfold tokens
  rw [Pipeline.bigSep_univ_comm, Pipeline.bigSep_univ_comm (fun (c : Dev nD) (r : Role) => (dutyTok swapE (cell (payee c r, r)) 0 () : sProp 𝕄))]
  refine bigSep_congr fun r _ => ?_
  rcases r with _ | ⟨_ | _, q⟩
  · exact bigSep_univ_equiv across (fun c : Dev nD => (dutyTok swapE (cell (c, bar)) 0 () : sProp 𝕄))
  · rfl
  · exact bigSep_univ_equiv across (fun c : Dev nD => (dutyTok swapE (cell (c, land q)) 0 () : sProp 𝕄))

/-- What the deal gives device `c`. -/
def dealt (c : Dev nD) : sProp 𝕄 := iprop(∃ K, records m K ∗ positions c ∗ tokens c)

/-- All devices' counters and minted state make every device's deal. -/
theorem deal :
    (bigSep Finset.univ fun c => iprop(Pipeline.ownSems0 (Ix := Unit) (Name := ℕ) (U := Ghost) (Lvl := ℕ) (Val := Elt F) (τ := τ) ownSem c ∗ unscopedSems0 c ∗ minted m c) : sProp 𝕄)
      ⊢ |={Set.univ}=> bigSep Finset.univ (dealt m) := by
  have hz : iprop((bigSep Finset.univ fun c => (Pipeline.ownSems0 (Ix := Unit) (Name := ℕ) (U := Ghost) (Lvl := ℕ) (Val := Elt F) (τ := τ) ownSem c : sProp 𝕄))
      ∗ bigSep Finset.univ fun c => unscopedSems0 c) ⊢ (bigSep Finset.univ fun cr : Dev nD × Role => semVal (cell cr) 0 : sProp 𝕄) := by
    rw [bigSep_univ_prod, ← bigSep_sep']
    refine bigSep_mono fun c _ => ?_
    show _ ⊢ (zeros c : sProp 𝕄)
    rw [zeros_eq]
    iintro ⟨Ho, Hu⟩
    isplitl [Hu] <;> iassumption
  unfold minted
  simp only [bigSep_sep']
  rw [← bigSep_univ_prod (fun cr : Dev nD × Role => (roundState swapE (plan m) (cell cr) 0 : sProp 𝕄)),
    ← bigSep_univ_prod (fun cr : Dev nD × Role => (reached swapE (cell cr) 0 : sProp 𝕄)), tokens_moved]
  iintro ⟨Ho, Hu, Hst, #Hr, Hat, Htok⟩
  ihave Hv := hz $$ [Ho Hu]
  · isplitl [Ho] <;> iassumption
  imod (make_invariants m) $$ [Hv Hst] with ⟨%K, #HI⟩
  · isplitl [Hv] <;> iassumption
  imodintro
  iapply (BI.bigSep_with_persistent (R := records m K) (Φ := fun c => iprop(positions c ∗ tokens c)) fun c _ => by
    unfold dealt; iintro H; iexists K; iexact H)
  isplitr
  · unfold records; isplitr; · iexact HI
    iexact Hr
  rw [bigSep_sep']
  isplitl [Hat] <;> iassumption

/-- What the devices owe at launch gives every device the credits for its own cells. -/
theorem launch_credits (c : Dev nD) : (Pipeline.launchCred owed₀ c : sProp 𝕄) ⊢ credits c := by
  have h (r : Role) : (Pipeline.launchCred (fun d => due d r) c : sProp 𝕄) ⊢ cred (tallyAt (cell (c, r)) () (unitsOf r)) :=
    Pipeline.launchCred_tallyAt (semOf r) peer peer peer_peer peer_peer () (unitsOf r) c
  rw [show (owed₀ : Dev nD → CellTallies nD τ sig Unit) = fun d => (due d (land 1) + due d (land 0)) + due d bar from rfl,
    Pipeline.launchCred_add (fun d => due d (land 1) + due d (land 0)), Pipeline.launchCred_add (fun d => due d (land 1))]
  unfold credits
  iintro ⟨⟨H1, H0⟩, Hb⟩
  isplitl [Hb]; · iapply (h bar); iexact Hb
  isplitl [H0]; · iapply (h (land 0)); iexact H0
  iapply (h (land 1)); iexact H1

end Cert.KernelIdeal.Swap

end
-- ==== Proof.KernelIdeal.Run.lean ====
/-
  The run of @main on the whole mesh (`run_main`): every weakly fair execution ends, every device's result array then
  holds `outAt`, its input array is as it was, and every semaphore counter is zero.
-/
module

public import proofs.«01_k».proof.Proof.KernelIdeal.Deal
public import Idealize.ShloMosaic.Lib.Pipeline.CollectiveSegs

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## The kernel's one grid point -/

/-- What each window holds after the point, what the device holds and owes before and after it. -/
def dats (_ : Fin 1) (c : Dev nD) : Dat τ (Elt F) Unit ℕ Ghost ℕ cfg0 c where
  A w := m ((cfg0.win w).arr.view.loc (c : Thread nD τ))
  after w _ := match w with
    | ⟨0, _⟩ => xAt m c
    | ⟨1, _⟩ => outAt m c
  Φ t := match t with
    | ⟨0, _⟩ => started m c
    | ⟨_ + 1, _⟩ => ended c
  q _ := fullShare
  owed t := match t with
    | ⟨0, _⟩ => owed₀ c
    | ⟨_ + 1, _⟩ => 0

/-- A window's one block is its whole array. -/
theorem read_in (f : main_arg0.ty.Contents (Elt F)) : (win0_0.blk t0_0).view.read (Elt F) f = f :=
  Memref.read_access_unit_zero (Elt F) main_arg0 (funext fun a => by fin_cases a <;> decide) (fun a => by fin_cases a <;> decide) f
theorem read_out (f : main_v1.ty.Contents (Elt F)) : (win0_1.blk t0_0).view.read (Elt F) f = f :=
  Memref.read_access_unit_zero (Elt F) main_v1 (funext fun a => by fin_cases a <;> decide) (fun a => by fin_cases a <;> decide) f

/-- The body finds the device's input block in the input window. -/
theorem before_in (c : Dev nD) (d) : (dats m 0 c).before (0 : Fin 2) t0_0 d = xAt m c := by
  unfold Dat.before
  rw [if_pos (fetch0_0 t0_0)]
  exact read_in (F := F) _

/-- A window's staging buffer, owned, is its points-to. -/
theorem owns_in (c : Dev nD) (X : (cc0_stg0_0 : Ref sig .tc).ty.Contents (Elt F)) :
    (owns (Ix := Unit) (Name := ℕ) (U := Ghost) (Lvl := ℕ) (c : Thread nD τ) (Memref.whole cc0_stg0_0) fullShare X : sProp 𝕄)
      = iprop(∃ f, ⌜f = X⌝ ∗ inPts c f) := by
  unfold owns; simp only [Memref.view_whole, View.read_whole, View.set_whole]; rfl
theorem owns_out (c : Dev nD) (X : (cc0_stg1_0 : Ref sig .tc).ty.Contents (Elt F)) :
    (owns (Ix := Unit) (Name := ℕ) (U := Ghost) (Lvl := ℕ) (c : Thread nD τ) (Memref.whole cc0_stg1_0) fullShare X : sProp 𝕄)
      = iprop(∃ f, ⌜f = X⌝ ∗ outPts c f) := by
  unfold owns; simp only [Memref.view_whole, View.read_whole, View.set_whole]; rfl

set_option maxRecDepth 4000 in
/-- The body, run at the point, takes what the pipeline hands it to what the pipeline expects back. -/
theorem body_obligation (c : Dev nD) : BodyObligation (dats (F := F) m 0 c) (defs₀ (F := F)) 𝒱₀ () Set.univ := fun t => by
  rw [fin_N0 t]
  rw [bigSep_W0, bigSep_W0]
  show iprop(started m c ∗ (dats m 0 c).owesAt () t0_0.castSucc
      ∗ (∃ d, owns (c : Thread nD τ) (Memref.whole cc0_stg0_0) fullShare ((dats m 0 c).before (0 : Fin 2) t0_0 d))
      ∗ ∃ d, owns (c : Thread nD τ) (Memref.whole cc0_stg1_0) fullShare ((dats m 0 c).before (1 : Fin 2) t0_0 d))
    ⊢ wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => iprop(ended c ∗ (dats m 0 c).owesAt () t0_0.succ
          ∗ owns (c : Thread nD τ) (Memref.whole cc0_stg0_0) fullShare (xAt m c)
          ∗ owns (c : Thread nD τ) (Memref.whole cc0_stg1_0) fullShare (outAt m c)))
  unfold Dat.owesAt Pipeline.owesWithin
  iintro ⟨Hs, ⟨%W, -, HO⟩, ⟨%d, Hx⟩, ⟨%e, Ho⟩⟩
  ihave Hx := (Entails.of_eq (owns_in c _)) $$ Hx
  icases Hx with ⟨%g, %hg, Hx⟩
  ihave Ho := (Entails.of_eq (owns_out c _)) $$ Ho
  icases Ho with ⟨%f, -, Ho⟩
  rw [hg.trans (before_in m c d)]
  iapply (body_run m c W f _)
  isplitl [Hs]; · iexact Hs
  isplitl [HO]; · iexact HO
  isplitl [Hx]; · iexact Hx
  isplitl [Ho]; · iexact Ho
  iintro ⟨He, ⟨%W', HO⟩, Hx, Ho⟩
  isplitl [He]; · iexact He
  isplitl [HO]
  · iexists W'
    isplitr; · ipureintro; exact fun _ _ => Or.inl trivial
    iexact HO
  isplitl [Hx]
  · iapply (Entails.of_eq (owns_in c _).symm)
    iexists _
    isplitr; · ipureintro; rfl
    iexact Hx
  iapply (Entails.of_eq (owns_out c _).symm)
  iexists _
  isplitr; · ipureintro; rfl
  iexact Ho

/-! ## The launch -/

/-- Every window is held whole. -/
theorem share_eq (c : Dev nD) (w : Fin cfg0.W) : (dats m 0 c).share w = fullShare := by unfold Dat.share; split <;> rfl

/-- Before the kernel a device has its share; -/
theorem enter (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(share m c ∗ emp) := by
  iintro ⟨-, Hl, Hc, -, Hd⟩
  ihave Hc := (launch_credits c) $$ Hc
  imodintro
  unfold share
  isplitl
  · isplitl [Hd]; · unfold dealt; iexact Hd
    isplitl [Hc] <;> iassumption
  iempintro
/-- with its scratch buffers it starts; -/
theorem begin (c : Dev nD) :
    iprop(share m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = started m c from rfl, scopedRest0_eq]
  unfold started scratch
  iintro ⟨Hs, -, Hr⟩
  isplitl [Hs] <;> iassumption
/-- at the end it gives its counters and scratch buffers back. -/
theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = ended c from rfl, scopedRest0_eq]
  unfold ended scratch
  rw [zeros_eq]
  iintro ⟨⟨Hu, Ho⟩, Hr⟩
  isplitl [Hu]; · iexact Hu
  isplitl [Ho] <;> iassumption

/-- The pipeline's own waits are on semaphores without a role. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_other c _ (by fin_cases w <;> fin_cases s <;> decide)
    · show _ ⊢ MayWait (c : Thread nD τ) _ () 0
      rw [MayWait_zero]; iintro -; iempintro

/-- The arrays after the run, as the pipeline computes them. -/
def finalAt (c : Dev nD) (w : Fin cfg0.W) : Buf (Elt F) ((cfg0.win w).arr.view.loc (c : Thread nD τ)) := (dats m 0 c).arrAt w cfg0.N

/-- The input array is as it was; -/
theorem final_in (c : Dev nD) : finalAt m c (0 : Fin 2) = m ((c : Thread nD τ).loc main_arg0) := (dats m 0 c).arrAt_in (0 : Fin 2) rfl _
/-- the result array is `outAt`. -/
theorem final_out (c : Dev nD) : finalAt m c (1 : Fin 2) = outAt m c := by
  refine (read_out (finalAt m c (1 : Fin 2))).symm.trans ?_
  unfold finalAt
  rw [show cfg0.N = (t0_0 : Fin cfg0.N).val + 1 from rfl, (dats m 0 c).arrAt_succ (1 : Fin 2) t0_0]
  rw [flush0_1 t0_0, if_pos rfl]
  exact View.read_write_univ _ _

set_option maxRecDepth 8000 in
/-- Every weakly fair execution of @main on all devices ends, with every device's result array at `outAt`, its input
    array as it was, and every counter at zero. -/
theorem run_main : θ_run defs (onTc (τ := τ) (main (F := F))) ⟨m, fun _ => 0, ρ⟩ (fun r =>
    (∀ c : Dev nD, r.2.mem ((c : Thread nD τ).loc main_v1) = outAt m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) pipeE defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := minted m) (G' := dealt m) (u₀ := ghost₀)
    (hu₀ := by
      unfold ghost₀
      iintro H
      ihave H := (ownU_pair _ _) $$ H
      icases H with ⟨HP, HX⟩
      imod (mint m) $$ HX with HG
      imodintro
      isplitl [HP] <;> iassumption)
    (hglob := deal m)
    (hA := fun _ _ => rfl) (hpf := fun _ k => k.elim0)
    (X := share m) (Y := fun c => unscopedSems0 c) (Z := fun _ => iprop(emp))
    (hX := enter m ρ) (hin := begin m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (final_out m c), ((h c).1 (0 : Fin 2)).trans (final_in m c)⟩,
      sem_eq_zero hs fun c => (h c).2.2⟩)

end Cert.KernelIdeal.Swap

end
-- ==== Proof.Reference.lean ====
/-
  What the reference computes: it reads its 512 × 256 argument as two 256 × 256 blocks one above the other and adds
  them, so element (r, k) of its result is element (r, k) plus element (256 + r, k) of the argument (`result_apply`).
-/
module

public import proofs.«01_k».proof.Proof.Gen.ReferenceIdeal
public import Idealize.ShloMosaic.PureOps.Ideal
public import Idealize.ShloMosaic.Lib.Pointwise

@[expose] public section

noncomputable section

namespace Cert.ReferenceIdeal.Blocks

open Cert.ReferenceIdeal Cert.ReferenceIdeal.Gen
open Idealize.ShloMosaic

/-- The element of the whole array that lies at `i` of the block number `p` from the top. -/
def rowOf (p : Fin 2) (i : S256x256.Idx) : S512x256.Idx :=
  ix2 (⟨256 * p.val + (i 0).val, by have := p.isLt; have : (i 0).val < 256 := (i 0).isLt; omega⟩ : Fin 512) (i 1 : Fin 256)

/-- The reference's result as a function of its argument. -/
def result (X : FVec Ideal S512x256 .f32) : FVec Ideal S256x256 .f32 :=
  Host.reduceAdd (shapeCast _ X shapeCasts_S512x256_S2x256x256) (constant S_ .f32 0x00000000#32)
    reducesTo_S2x256x256_S256x256_d0 h_S_

/-- Element `i` of the reference's result is the sum of the two blocks' elements at `i`. -/
theorem result_apply (X : FVec Ideal S512x256 .f32) (i : S256x256.Idx) :
    result X i = X (rowOf 0 i) + X (rowOf 1 i) := by
  have cast_at (p : Fin 2) (a b : Fin 256) (ha : a.val = (i 0).val) (hb : b.val = (i 1).val) :
      shapeCast S2x256x256 X shapeCasts_S512x256_S2x256x256 (ix3 p a b) = X (rowOf p i) := by
    refine shapeCast_apply X _ _ _ ?_
    rw [Shape.rowMajor_val_two, Shape.rowMajor_val_three]
    show (256 * p.val + (i 0).val) * 256 + (i 1).val = (p.val * 256 + a.val) * 256 + b.val
    omega
  unfold result
  rw [Host.reduceAdd_apply, Ideal.hostReduceAdd_def, Ideal.hostReduceAdd_r3_a0, Fin.sum_univ_two]
  refine (congrArg₂ (· + ·) ?_ (congrArg₂ (· + ·) (cast_at 0 _ _ rfl rfl) (cast_at 1 _ _ rfl rfl))).trans (zero_add _)
  exact Ideal.ofBits_zero_f32

end Cert.ReferenceIdeal.Blocks

end
-- ==== Proof.Equation.lean ====
/-
  The equation between the kernel and the reference, over exact values.

  Device `c`'s input is block `c / 4` of the reference's argument (the array is cut in two along the first mesh axis),
  and its peer's is the other block. Rounding to bf16 and widening change nothing over exact values, so what device `c`
  ends with (`outAt`) is the sum of the two blocks, in an order that depends on `c`; addition being commutative, it is
  the reference's result on every device (`outAt_eq_result`).
-/
module

public import proofs.«01_k».proof.Proof.Reference
public import proofs.«01_k».proof.Proof.KernelIdeal.Slots
public import Idealize.ShloMosaic.Lib.Layout

@[expose] public section

noncomputable section

namespace Cert.Equation

open Idealize.ShloMosaic Idealize.ShloMosaic.TcCoe
open Cert.KernelIdeal Cert.KernelIdeal.Gen Cert.KernelIdeal.Swap
open Cert.ReferenceIdeal.Blocks (rowOf result result_apply)

set_option backward.proofsInPublic true in
/-- Which of the two blocks device `c` holds: its coordinate on the first mesh axis. -/
def blockOf (c : Dev nD) : Fin 2 := ⟨c.val / 4 % 2, Nat.mod_lt _ (by decide)⟩

/-- A device and its peer hold the two different blocks. -/
theorem blockOf_cases (c : Dev nD) :
    (blockOf c = 0 ∧ blockOf (peer c) = 1) ∨ (blockOf c = 1 ∧ blockOf (peer c) = 0) := by
  revert c; decide

/-- Device `c`'s part of a 512 × 256 array, read at `i`: element `i` of its block. -/
theorem part_apply (X : FVec Ideal Cert.ReferenceIdeal.S512x256 .f32) (c : Dev nD) (i : S256x256.Idx) :
    (Layout.blockN ⟨2, ![256, 256]⟩ ⟨2, ![512, 256]⟩ (Layout.meshBlock [2, 2, 2] ![[0], []] c) X) i = X (rowOf (blockOf c) i) := by
  have rows : Layout.meshLin [2, 2, 2] c.val [0] = (blockOf c).val := by revert c; decide
  refine congrArg X (funext fun b => Fin.ext ?_)
  rw [Layout.TilesN.idx_val, Layout.meshBlock_val]
  match b with
  | ⟨0, _⟩ =>
    show Layout.meshLin [2, 2, 2] c.val [0] * 256 + (i 0).val = 256 * (blockOf c).val + (i 0).val
    rw [rows, Nat.mul_comm]
  | ⟨1, _⟩ =>
    show 0 * 256 + (i 1).val = (i 1).val
    rw [Nat.zero_mul, Nat.zero_add]

/-- When every device's input is its part of `X`, what each device ends with is the reference's result on `X`. -/
theorem outAt_eq_result (m : (ℓ : Loc nD τ sig) → Buf (Elt Ideal) ℓ) (X : FVec Ideal Cert.ReferenceIdeal.S512x256 .f32)
    (hin : ∀ c : Dev nD, m ((c : Thread nD τ).loc main_arg0)
      = Layout.blockN ⟨2, ![256, 256]⟩ ⟨2, ![512, 256]⟩ (Layout.meshBlock [2, 2, 2] ![[0], []] c) X)
    (c : Dev nD) : outAt m c = result X := by
  have input (d : Dev nD) (i : S256x256.Idx) : xAt m d i = X (rowOf (blockOf d) i) :=
    (congrFun (hin d) i).trans (part_apply X d i)
  funext i
  rw [result_apply]
  show xAt m c i + xAt m (peer c) i = _
  rw [input, input]
  rcases blockOf_cases c with ⟨h, h'⟩ | ⟨h, h'⟩ <;> rw [h, h']
  exact add_comm _ _

end Cert.Equation

end
-- ==== Proof.lean ====
/-
  The certificate: every claim about the pairwise exchange kernel, assembled from its run on the machine's own floats
  (Proof/Kernel/Run.lean) and over exact values (Proof/KernelIdeal/Run.lean), the reference's run, and the equation
  between their results (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel on the machine's floats terminates on every device, its inputs unchanged and every counter back at zero. -/
theorem kernel_quiescent : Cert.quiescent_Kernel (hKernel := Cert.Kernel.Gen.facts) := fun m g _ =>
  (θ_run _ _ _).mono (fun _ h => ⟨fun c => (h.1 c).2, h.2⟩) (Cert.Kernel.Swap.run_main (F := Bits) m g)

/-- The same over exact values. -/
theorem kernelIdeal_quiescent : Cert.quiescent_KernelIdeal (hKernelIdeal := Cert.KernelIdeal.Gen.facts) := fun m g _ =>
  (θ_run _ _ _).mono (fun _ h => ⟨fun c => (h.1 c).2, h.2⟩) (Cert.KernelIdeal.Swap.run_main (F := Ideal) m g)

/-- The reference terminates, its input unchanged; it has no counters. -/
theorem reference_quiescent : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Over exact values every device ends with the reference's result, the sum of the two blocks of the whole array. -/
theorem kernel_eq_reference : Cert.algebraic_KernelIdeal_ReferenceIdeal (hKernelIdeal := Cert.KernelIdeal.Gen.facts)
    (hReferenceIdeal := Cert.ReferenceIdeal.Gen.facts) := fun m g m' g' _ hin =>
  ⟨Cert.ReferenceIdeal.Blocks.result
      (m' ((0 : Dev Cert.ReferenceIdeal.nD).tc.loc Cert.ReferenceIdeal.main_arg0 : Loc _ Cert.ReferenceIdeal.τ _)),
    (θ_run _ _ _).mono (fun _ h c => ⟨(h.1 c).1.trans (Cert.Equation.outAt_eq_result m _ hin c), (h.1 c).2⟩)
      (Cert.KernelIdeal.Swap.run_main (F := Ideal) m g),
    (θ_run _ _ _).mono (fun _ h => h 0) (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    kernel_quiescent, kernelIdeal_quiescent, reference_quiescent, trivial, kernel_eq_reference⟩

end Cert.Proof

end
